-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S512x4096 : Shape := ⟨2, ![512, 4096]⟩
abbrev S128x128 : Shape := ⟨2, ![128, 128]⟩
abbrev S512x1 : Shape := ⟨2, ![512, 1]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x4096 : Shape := ⟨2, ![8192, 4096]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S_, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Prefix.lean ====
/-
  Prefix sums along a row, over the extended reals: the function that both programs are shown to compute, and the
  three facts about finite sums that the two sides use.
-/
module

public import Idealize.ShloMosaic.PureOps.Ideal.Laws
public import Idealize.ShloMosaic.Lib.ValueIdx

@[expose] public section

noncomputable section

namespace Cert.RowScan

open Idealize.ShloMosaic Idealize.ShloMosaic.ValueIdx
open scoped BigOperators

/-- Entry `k` of row `r` of a matrix, and zero past the row's end. -/
def entry {B N : ℕ} (X : (⟨2, ![B, N]⟩ : Shape).Idx → EReal) (r : Fin B) (k : ℕ) : EReal :=
  if h : k < N then X (ix2 r ⟨k, h⟩) else 0

theorem entry_of_lt {B N : ℕ} (X : (⟨2, ![B, N]⟩ : Shape).Idx → EReal) (r : Fin B) {k : ℕ} (h : k < N) :
    entry X r k = X (ix2 r ⟨k, h⟩) := dif_pos h

/-- The sum of the first `n` entries of row `r`. -/
def prefixSum {B N : ℕ} (X : (⟨2, ![B, N]⟩ : Shape).Idx → EReal) (r : Fin B) (n : ℕ) : EReal :=
  ∑ k ∈ Finset.range n, entry X r k

/-- The inclusive running sum along the rows: at `(r, c)` the sum of the entries `(r, 0)`, …, `(r, c)`. -/
def rowScan {B N : ℕ} (X : (⟨2, ![B, N]⟩ : Shape).Idx → EReal) : (⟨2, ![B, N]⟩ : Shape).Idx → EReal :=
  fun j => prefixSum X (j 0) ((j 1).val + 1)

theorem prefixSum_zero {B N : ℕ} (X : (⟨2, ![B, N]⟩ : Shape).Idx → EReal) (r : Fin B) : prefixSum X r 0 = 0 :=
  Finset.sum_range_zero _

/-- A prefix of length `a + b` is the prefix of length `a` and then `b` further entries. -/
theorem prefixSum_add {B N : ℕ} (X : (⟨2, ![B, N]⟩ : Shape).Idx → EReal) (r : Fin B) (a b : ℕ) :
    prefixSum X r (a + b) = prefixSum X r a + ∑ k ∈ Finset.range b, entry X r (a + k) :=
  Finset.sum_range_add _ a b

/-- Of a sum over `K` positions, the condition `k ≤ c` keeps the first `c + 1`. -/
theorem sum_upTo (K c : ℕ) (hc : c < K) (f : ℕ → EReal) :
    (∑ k ∈ Finset.range K, if k ≤ c then f k else 0) = ∑ k ∈ Finset.range (c + 1), f k := by
  rw [← Finset.sum_filter]
  refine Finset.sum_congr (Finset.ext fun k => ?_) fun _ _ => rfl
  simp only [Finset.mem_filter, Finset.mem_range]
  omega

/-- A window of `L + 1` positions that ends at `c ≤ L`, laid over a sequence with `L` zeros in front of it, holds the
    entries `0`, …, `c` of the sequence and zeros. -/
theorem sum_window_upTo (L c : ℕ) (hc : c ≤ L) (f : ℕ → EReal) :
    (∑ w ∈ Finset.range (L + 1), if L ≤ c + w then f (c + w - L) else 0) = ∑ k ∈ Finset.range (c + 1), f k := by
  have hL : L + 1 = (L - c) + (c + 1) := by omega
  rw [hL, Finset.sum_range_add]
  have h0 : (∑ w ∈ Finset.range (L - c), if L ≤ c + w then f (c + w - L) else 0) = 0 :=
    Finset.sum_eq_zero fun w hw => if_neg (by have := Finset.mem_range.1 hw; omega)
  rw [h0, zero_add]
  refine Finset.sum_congr rfl fun k _ => ?_
  rw [if_pos (by omega)]
  congr 1
  omega

/-- Adding the values `g n` one after another to `z` gives `z` plus their sum. -/
theorem foldl_add_eq {ι : Type} (g : ι → EReal) (l : List ι) (z : EReal) :
    l.foldl (fun s n => s + g n) z = z + (l.map g).sum := by
  induction l generalizing z with
  | nil => simp
  | cons a l ih => rw [List.foldl_cons, ih, List.map_cons, List.sum_cons, add_assoc]

end Cert.RowScan

end
-- ==== Proof.Block.lean ====
/-
  What the kernel's body computes of one block of 512 rows: the running sum along each of its rows.
  The body cuts the block into 32 chunks of 128 columns. Chunk `n` is multiplied by the upper triangle of ones, which
  gives the running sums inside the chunk, and the total of the chunks before it, the carry, is added to each.
-/
module

public import proofs.«01_k».proof.Proof.Prefix
public import proofs.«01_k».proof.Proof.Gen.KernelIdeal.Frame
public import Idealize.ShloMosaic.Lib.MatmulPlain
public import Idealize.ShloMosaic.Lib.Pipeline.Value
public import Idealize.ShloMosaic.Lib.Pipeline.ValueKit.Tiles

@[expose] public section

noncomputable section

namespace Cert.RowScan

open Idealize.ShloMosaic Idealize.ShloMosaic.ValueIdx
open Cert.KernelIdeal Cert.KernelIdeal.Gen
open scoped BigOperators

/-! ## The triangle and one chunk's product -/

/-- The triangle has a one at `(k, c)` where `k ≤ c` and zeros elsewhere. -/
theorem triangle_apply (k c : Fin 128) :
    (k0_pay1 (F := Ideal)) (ix2 k c) = if k.val ≤ c.val then (1 : EReal) else 0 := by
  have hk : k.val < 2 ^ (32 - 1) := lt_trans k.isLt (by decide)
  have hc : c.val < 2 ^ (32 - 1) := lt_trans c.isLt (by decide)
  unfold k0_pay1
  show FloatOps.sitofp (F := Ideal) .f32 ((IntOp.cmpi .sle (BitVec.ofNat 32 (0 * 128 + k.val)) (BitVec.ofNat 32 (0 * 128 + c.val))).setWidth 32) = _
  rw [Nat.zero_mul, Nat.zero_add, Nat.zero_add, WordCmp.cmpi_sle_ofNat hk hc]
  by_cases h : k.val ≤ c.val
  · rw [decide_eq_true h, if_pos h]
    show (((1#32 : BitVec 32).toInt : ℝ) : EReal) = 1
    simp
  · rw [decide_eq_false h, if_neg h]
    show (((0#32 : BitVec 32).toInt : ℝ) : EReal) = 0
    simp

/-- A chunk times the triangle, from a zero accumulator. -/
def inChunk (v : FVec Ideal S512x128 .f32) : FVec Ideal S512x128 .f32 :=
  matmul dot_S512x128_S128x128_S512x128_1_0_0_1_n_n none v (k0_pay1 (F := Ideal)) (constant S512x128 .f32 0x00000000#32)

/-- Its entry `(r, c)` is the sum of the chunk's entries `(r, 0)`, …, `(r, c)`. -/
theorem inChunk_apply (v : FVec Ideal S512x128 .f32) (r : Fin 512) (c : Fin 128) :
    inChunk v (ix2 r c) = prefixSum (B := 512) (N := 128) v r (c.val + 1) := by
  have h : inChunk v (ix2 r c) = (constant S512x128 .f32 0x00000000#32 : FVec Ideal S512x128 .f32) (ix2 r c)
      + ∑ k : Fin 128, v (ix2 r k) * (k0_pay1 (F := Ideal)) (ix2 k c) :=
    Ideal.matmul_plain_apply (M := 512) (K := 128) (N := 128) none v (k0_pay1 (F := Ideal)) _ r c
  rw [h, constant_apply, Ideal.ofBits_zero_f32, zero_add]
  unfold prefixSum
  rw [← sum_upTo 128 c.val c.isLt, Finset.sum_range]
  refine Finset.sum_congr rfl fun k _ => ?_
  rw [triangle_apply, mul_ite, mul_one, mul_zero, entry_of_lt _ _ k.isLt]

/-! ## The chunks of a block, the carries and the pieces stored -/

/-- Chunk `n` of a block: all 512 rows of the columns `128 n`, …, `128 n + 127`. -/
abbrev chunkRect (n : ℕ) (h : n < 32) : Rect S512x4096 :=
  Rect.unit (s := S512x4096) ![0, 128 * n] S512x128.size (fun a => by
    match a with
    | ⟨0, _⟩ => exact Nat.le_refl 512
    | ⟨1, _⟩ => show 128 * n + 128 ≤ 4096; omega)

/-- The column of chunk totals carried into chunk `n`. -/
def carry (x : Vec Ideal S512x4096 .f32) : (n : ℕ) → n ≤ 32 → FVec Ideal S512x1 .f32
  | 0, _ => k0_pay2 (F := Ideal)
  | n + 1, h => addf (carry x n (Nat.le_of_succ_le h))
      (extractStridedSlice S512x1 ![0, 127] (inChunk (View.ld x (chunkRect n h))) slices_S512x128_o0_127_S512x1)

/-- What the body stores at chunk `n`: the running sums inside it, plus the carry. -/
def stored (x : Vec Ideal S512x4096 .f32) (n : ℕ) (h : n < 32) : FVec Ideal S512x128 .f32 :=
  addf (inChunk (View.ld x (chunkRect n h))) (broadcastTo S512x128 (carry x n h.le) broadcasts_S512x1_S512x128)

/-- The stores of the first `n` chunks, the last first. -/
def stores (x : Vec Ideal S512x4096 .f32) : (n : ℕ) → n ≤ 32 → List (View.Piece (Elt Ideal) S512x4096 .f32)
  | 0, _ => []
  | n + 1, h => ⟨chunkRect n h, stored x n h⟩ :: stores x n (Nat.le_of_succ_le h)

/-- The body's result is what its 32 stores leave. -/
theorem out_eq (x : Vec Ideal S512x4096 .f32) : out0_1 x = View.canon (stores x 32 (Nat.le_refl 32)) := rfl

/-! ## What they hold -/

/-- Entry `(r, k)` of chunk `n` is entry `128 n + k` of the block's row `r`. -/
theorem entry_chunk (x : Vec Ideal S512x4096 .f32) (n : ℕ) (h : n < 32) (r : Fin 512) (k : ℕ) (hk : k < 128) :
    entry (B := 512) (N := 128) (View.ld x (chunkRect n h)) r k = entry (B := 512) (N := 4096) x r (128 * n + k) := by
  rw [entry_of_lt _ _ hk, entry_of_lt _ _ (show 128 * n + k < 4096 by omega)]
  refine congrArg x (funext fun a => Fin.ext ?_)
  rw [Rect.idx_unit_val]
  match a with
  | ⟨0, _⟩ => exact Nat.zero_add _
  | ⟨1, _⟩ => rfl

/-- So a running sum inside chunk `n` continues the prefix of length `128 n`. -/
theorem prefixSum_chunk (x : Vec Ideal S512x4096 .f32) (n : ℕ) (h : n < 32) (r : Fin 512) (c : ℕ) (hc : c ≤ 128) :
    prefixSum (B := 512) (N := 4096) x r (128 * n)
        + prefixSum (B := 512) (N := 128) (View.ld x (chunkRect n h)) r c
      = prefixSum (B := 512) (N := 4096) x r (128 * n + c) := by
  rw [prefixSum_add]
  refine congrArg (_ + ·) (Finset.sum_congr rfl fun k hk => ?_)
  exact entry_chunk x n h r k (lt_of_lt_of_le (Finset.mem_range.1 hk) hc)

/-- The carry into chunk `n` holds, for each row, the sum of the first `128 n` entries. -/
theorem carry_apply (x : Vec Ideal S512x4096 .f32) (r : Fin 512) :
    ∀ (n : ℕ) (h : n ≤ 32), carry x n h (ix2 r (0 : Fin 1)) = prefixSum (B := 512) (N := 4096) x r (128 * n)
  | 0, _ => by
    rw [Nat.mul_zero, prefixSum_zero]
    exact Ideal.ofBits_zero_f32
  | n + 1, h => by
    have hs : extractStridedSlice S512x1 ![0, 127] (inChunk (View.ld x (chunkRect n h))) slices_S512x128_o0_127_S512x1
        (ix2 r (0 : Fin 1)) = inChunk (View.ld x (chunkRect n h)) (ix2 r (127 : Fin 128)) := by
      unfold extractStridedSlice
      refine congrArg _ (funext fun a => Fin.ext ?_)
      match a with
      | ⟨0, _⟩ => exact Nat.zero_add _
      | ⟨1, _⟩ => rfl
    unfold carry
    rw [addf_apply, carry_apply x r n _, hs, inChunk_apply]
    exact prefixSum_chunk x n h r 128 (Nat.le_refl _)

/-- What is stored at chunk `n` is the row's running sum at the chunk's columns. -/
theorem stored_apply (x : Vec Ideal S512x4096 .f32) (n : ℕ) (h : n < 32) (r : Fin 512) (c : Fin 128) :
    stored x n h (ix2 r c) = prefixSum (B := 512) (N := 4096) x r (128 * n + (c.val + 1)) := by
  have hb : broadcastTo S512x128 (carry x n h.le) broadcasts_S512x1_S512x128 (ix2 r c) = carry x n h.le (ix2 r (0 : Fin 1)) := by
    unfold broadcastTo
    refine congrArg _ (funext fun a => ?_)
    match a with
    | ⟨0, _⟩ => rfl
    | ⟨1, _⟩ => rfl
  unfold stored
  rw [addf_apply, hb, inChunk_apply, carry_apply, add_comm]
  exact prefixSum_chunk x n h r (c.val + 1) c.isLt

/-- Every one of the stores holds the running sum at the places that it writes. -/
theorem stores_hold (x : Vec Ideal S512x4096 .f32) : ∀ (n : ℕ) (h : n ≤ 32), ∀ p ∈ stores x n h, ∀ j : p.1.shape.Idx,
    p.2 j = rowScan (B := 512) (N := 4096) x (p.1.emb j)
  | 0, _, p, hp => absurd hp List.not_mem_nil
  | n + 1, h, p, hp => by
    rcases List.mem_cons.1 hp with rfl | hp'
    · intro j
      obtain ⟨r, c, rfl⟩ : ∃ (r : Fin 512) (c : Fin 128), j = ix2 r c := ⟨j 0, j 1, eq_ix2 j⟩
      show stored x n h (ix2 r c) = rowScan (B := 512) (N := 4096) x ((chunkRect n h).idx (ix2 r c))
      rw [stored_apply]
      unfold rowScan
      have h0 : (chunkRect n h).idx (ix2 r c) 0 = r := Fin.ext ((Rect.idx_unit_val _ _ _ _ _).trans (Nat.zero_add _))
      have h1 : ((chunkRect n h).idx (ix2 r c) 1).val = 128 * n + c.val := Rect.idx_unit_val _ _ _ _ _
      rw [h0, h1, Nat.add_assoc]
    · exact stores_hold x n _ p hp'

/-- A column below `128 n` is written by one of the first `n` stores. -/
theorem stores_cover (x : Vec Ideal S512x4096 .f32) (y : S512x4096.Idx) : ∀ (n : ℕ) (h : n ≤ 32), (y 1).val < 128 * n →
    ∃ p ∈ stores x n h, y ∈ p.1.set
  | 0, _, hy => absurd hy (by omega)
  | n + 1, h, hy => by
    by_cases hn : (y 1).val < 128 * n
    · obtain ⟨p, hp, hyp⟩ := stores_cover x y n (Nat.le_of_succ_le h) hn
      exact ⟨p, List.mem_cons_of_mem _ hp, hyp⟩
    · refine ⟨_, List.mem_cons_self, ?_⟩
      show y ∈ (chunkRect n h).set
      rw [Rect.mem_set_unit]
      have h0 : (y 0).val < 512 := (y 0).isLt
      intro a
      match a with
      | ⟨0, _⟩ => show 0 ≤ (y 0).val ∧ (y 0).val < 0 + 512; omega
      | ⟨1, _⟩ => show 128 * n ≤ (y 1).val ∧ (y 1).val < 128 * n + 128; omega

/-- The body leaves in its output block the running sum along the rows of its input block. -/
theorem out_rowScan (x : Vec Ideal S512x4096 .f32) : out0_1 x = rowScan (B := 512) (N := 4096) x := by
  rw [out_eq]
  funext y
  exact View.canon_apply_of_pieces _ _ (stores_hold x 32 (Nat.le_refl 32)) y
    (stores_cover x y 32 (Nat.le_refl 32) (y 1).isLt)

end Cert.RowScan

end
-- ==== Proof.Array.lean ====
/-
  What the kernel's result array holds after the run: the running sum along the rows of the argument array. Grid point
  `t` reads the rows `512 t`, …, `512 t + 511` whole and writes the same rows of the result.
-/
module

public import proofs.«01_k».proof.Proof.Block
public import proofs.«01_k».proof.Proof.Gen.KernelIdeal.Value

@[expose] public section

noncomputable section

namespace Cert.RowScan

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The running sum along the rows of device `c`'s argument array. -/
abbrev result (c : Dev nD) : Buf (Elt Ideal) ((c : Thread nD τ).loc main_v0) :=
  rowScan (B := 8192) (N := 4096) (m ((c : Thread nD τ).loc main_arg0))

/-- Both windows are at block `(t, 0)` at point `t`. -/
theorem index_facts : ∀ t : Fin cfg0.N, (win0_0.index t 0 = t.val ∧ win0_0.index t 1 = 0)
    ∧ (win0_1.index t 0 = t.val ∧ win0_1.index t 1 = 0) ∧ t.val < 16 :=
  (by decide +kernel : ∀ t : Fin grid0.N, (win0_0.index t 0 = t.val ∧ win0_0.index t 1 = 0)
    ∧ (win0_1.index t 0 = t.val ∧ win0_1.index t 1 = 0) ∧ t.val < 16)

/-- Row `r` of the block at point `t` is row `512 t + r` of the argument. -/
theorem iblk_apply (c : Dev nD) (t : Fin cfg0.N) (r : Fin 512) (k : Fin 4096) (R : Fin 8192) (hR : R.val = 512 * t.val + r.val) :
    (iblk m c 0 t : Vec Ideal S512x4096 .f32) (ix2 r k) = m ((c : Thread nD τ).loc main_arg0) (ix2 R k) := by
  obtain ⟨⟨h0, h1⟩, -, -⟩ := index_facts t
  unfold iblk
  rw [View.read_apply]
  refine congrArg (m ((c : Thread nD τ).loc main_arg0)) (funext fun a => Fin.ext ?_)
  match a with
  | ⟨0, _⟩ => show win0_0.index t 0 * 512 + 1 * r.val = R.val; rw [h0]; omega
  | ⟨1, _⟩ => show win0_0.index t 1 * 4096 + 1 * k.val = k.val; rw [h1]; omega

/-- The rows being whole in the blocks, the prefix sums of the block are those of the argument. -/
theorem prefixSum_iblk (c : Dev nD) (t : Fin cfg0.N) (r : Fin 512) (R : Fin 8192) (hR : R.val = 512 * t.val + r.val) (n : ℕ) :
    prefixSum (B := 512) (N := 4096) (iblk m c 0 t) r n
      = prefixSum (B := 8192) (N := 4096) (m ((c : Thread nD τ).loc main_arg0)) R n := by
  unfold prefixSum
  refine Finset.sum_congr rfl fun k _ => ?_
  unfold entry
  by_cases hk : k < 4096
  · rw [dif_pos hk, dif_pos hk]
    exact iblk_apply m c t r ⟨k, hk⟩ R hR
  · rw [dif_neg hk, dif_neg hk]

/-- What point `t` writes back is its block of the running sum. -/
theorem flushed_eq (c : Dev nD) (t : Fin cfg0.N) :
    (dats m 0 c).flushed 1 t = ((cfg0.win 1).blk t).view.read (Elt Ideal) (result m c) := by
  rw [Value.flushed1, out_rowScan]
  obtain ⟨-, ⟨h0, h1⟩, ht⟩ := index_facts t
  funext j
  have hj : (j 0).val < 512 := (j 0).isLt
  rw [View.read_apply]
  show prefixSum (B := 512) (N := 4096) (iblk m c 0 t) (j 0) ((j 1).val + 1)
    = prefixSum (B := 8192) (N := 4096) (m ((c : Thread nD τ).loc main_arg0)) ((((cfg0.win 1).blk t).view.emb j) 0)
        (((((cfg0.win 1).blk t).view.emb j) 1).val + 1)
  have e0 : ((((cfg0.win 1).blk t).view.emb j) 0).val = 512 * t.val + (j 0).val := by
    show win0_1.index t 0 * 512 + 1 * (j 0).val = _; rw [h0]; omega
  have e1 : ((((cfg0.win 1).blk t).view.emb j) 1).val = (j 1).val := by
    show win0_1.index t 1 * 4096 + 1 * (j 1).val = _; rw [h1]; omega
  rw [e1]
  exact prefixSum_iblk m c t (j 0) _ e0 _

/-- Every row is written by the point whose block holds it. -/
theorem covered (i : S8192x4096.Idx) :
    ∃ t : Fin cfg0.N, (cfg0.win 1).flush t = true ∧ i ∈ ((cfg0.win 1).blk t).view.set := by
  have hN : cfg0.N = 16 := N_0
  have hi0 : (i 0).val < 8192 := (i 0).isLt
  have hi1 : (i 1).val < 4096 := (i 1).isLt
  obtain ⟨t, ht⟩ : ∃ t : Fin cfg0.N, t.val = (i 0).val / 512 := ⟨⟨(i 0).val / 512, by omega⟩, rfl⟩
  refine ⟨t, flush0_1 t, ?_⟩
  obtain ⟨-, ⟨h0, h1⟩, -⟩ := index_facts t
  show i ∈ ((View.whole main_v0).slice (win0_1.rect t)).set
  rw [View.set_slice_whole, Rect.mem_set_unit]
  intro a
  match a with
  | ⟨0, _⟩ =>
    show win0_1.index t 0 * 512 ≤ (i 0).val ∧ (i 0).val < win0_1.index t 0 * 512 + 512
    rw [h0]; omega
  | ⟨1, _⟩ =>
    show win0_1.index t 1 * 4096 ≤ (i 1).val ∧ (i 1).val < win0_1.index t 1 * 4096 + 4096
    rw [h1]; omega

/-- The result array ends holding the running sum along the rows of the argument. -/
theorem final_eq (c : Dev nD) : (dats m 0 c).arrAt 1 cfg0.N = result m c :=
  (dats m 0 c).arrAt_eq_of_cover 1 (result m c) (fun t _ => flushed_eq m c t) covered

end Cert.RowScan

end
-- ==== Proof.RefScan.lean ====
/-
  What the reference computes. `jnp.cumsum` along the rows is printed as a sum over a window as long as the row, which
  ends at the entry read and is padded in front: the running sum along the row.
-/
module

public import proofs.«01_k».proof.Proof.Prefix
public import proofs.«01_k».proof.Proof.Gen.ReferenceIdeal.Run
public import Idealize.ShloMosaic.Lib.Routing.Ops

@[expose] public section

noncomputable section

namespace Cert.RowScan

open Idealize.ShloMosaic Idealize.ShloMosaic.ValueIdx
open scoped BigOperators

/-- A windowed sum from zero over the whole row, at any number `B` of rows of `L + 1` entries. -/
theorem windowSum_eq {B L : ℕ} (X : (⟨2, ![B, L + 1]⟩ : Shape).Idx → EReal)
    (h : (⟨2, ![B, L + 1]⟩ : Shape).ReduceWindows (![1, L + 1] : Fin 2 → ℕ) ![1, 1] ![0, L] ![0, 0] ⟨2, ![B, L + 1]⟩) :
    Ideal.hostReduceWindowAdd ![1, L + 1] ![1, 1] ![0, L] ![0, 0] h X 0 = rowScan X := by
  funext j
  obtain ⟨r, c, rfl⟩ : ∃ (r : Fin B) (c : Fin (L + 1)), j = ix2 r c := ⟨j 0, j 1, eq_ix2 j⟩
  have hr := r.isLt
  have hc := c.isLt
  unfold Ideal.hostReduceWindowAdd Host.reduceWindow
  refine (foldl_add_eq _ _ _).trans ?_
  rw [zero_add, ← List.ofFn_eq_map, List.sum_ofFn]
  refine Eq.trans ?_ (sum_window_upTo L c.val (by omega) (entry X r))
  rw [show (∑ w ∈ Finset.range (L + 1), if L ≤ c.val + w then entry X r (c.val + w - L) else 0)
      = ∑ n : Fin (Routing.shape2 1 (L + 1)).numel, if L ≤ c.val + n.val then entry X r (c.val + n.val - L) else 0 by
    rw [← Finset.sum_range (n := (Routing.shape2 1 (L + 1)).numel)
      (fun w => if L ≤ c.val + w then entry X r (c.val + w - L) else 0), Routing.numel2]]
  refine Finset.sum_congr rfl fun n _ => ?_
  have hw0 : ((Routing.shape2 1 (L + 1)).rowMajor.symm n 0).val = 0 := by rw [Routing.symm2]; rfl
  have hw1 : ((Routing.shape2 1 (L + 1)).rowMajor.symm n 1).val = n.val := by rw [Routing.symm2]; rfl
  have hn : n.val < L + 1 := (n.cast (Routing.numel2 _)).isLt
  split
  · next hin =>
    have h1 := hin 1
    change L ≤ c.val * 1 + ((Routing.shape2 1 (L + 1)).rowMajor.symm n 1).val
      ∧ c.val * 1 + ((Routing.shape2 1 (L + 1)).rowMajor.symm n 1).val - L < L + 1 at h1
    rw [hw1] at h1
    rw [if_pos (by omega), entry_of_lt X r (show c.val + n.val - L < L + 1 by omega)]
    refine congrArg X (funext fun a => Fin.ext ?_)
    match a with
    | ⟨0, _⟩ =>
      show r.val * 1 + ((Routing.shape2 1 (L + 1)).rowMajor.symm n 0).val - 0 = r.val
      rw [hw0]; omega
    | ⟨1, _⟩ =>
      show c.val * 1 + ((Routing.shape2 1 (L + 1)).rowMajor.symm n 1).val - L = c.val + n.val - L
      rw [hw1, Nat.mul_one]
  · next hin =>
    rw [if_neg fun hle => hin fun a => ?_]
    match a with
    | ⟨0, _⟩ =>
      show 0 ≤ r.val * 1 + ((Routing.shape2 1 (L + 1)).rowMajor.symm n 0).val
        ∧ r.val * 1 + ((Routing.shape2 1 (L + 1)).rowMajor.symm n 0).val - 0 < B
      rw [hw0]; omega
    | ⟨1, _⟩ =>
      show L ≤ c.val * 1 + ((Routing.shape2 1 (L + 1)).rowMajor.symm n 1).val
        ∧ c.val * 1 + ((Routing.shape2 1 (L + 1)).rowMajor.symm n 1).val - L < L + 1
      rw [hw1]; omega

open Cert.ReferenceIdeal Cert.ReferenceIdeal.Gen in
/-- The term that the reference's run leaves in its result is the running sum along the argument's rows. -/
theorem reference_eq (X : FVec Ideal S8192x4096 .f32) :
    Host.reduceWindowAdd ![1, 4096] ![1, 1] ![0, 4095] ![0, 0] X
        (broadcastInDim S_ ![] bcast_S_S_ (constant (F := Ideal) S_ .f32 0x00000000#32))
        reduceWindows_S8192x4096_S8192x4096_w1s1p0_0_w4096s1p4095_0 h_S_
      = rowScan (B := 8192) (N := 4096) X := by
  have hz : broadcastInDim S_ ![] bcast_S_S_ (constant (F := Ideal) S_ .f32 0x00000000#32) (Shape.Idx.first h_S_) = (0 : EReal) :=
    Ideal.ofBits_zero_f32
  unfold Host.reduceWindowAdd
  rw [hz]
  exact windowSum_eq (B := 8192) (L := 4095) X _

end Cert.RowScan

end
-- ==== Proof.lean ====
/-
  The kernel (a running sum along the rows of a matrix, 512 rows at a time, chunk by chunk of 128 columns by a product
  with a triangle of ones) and `jnp.cumsum` compute the same function over the extended reals. The runs and the frames
  are the generated ones; Block, Array and RefScan say what the two results hold, and here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefScan
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference terminates, leaves its argument unchanged and every counter at zero. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- Kernel and reference end with the same array: the running sum along the argument's rows. -/
theorem algebraic : Cert.algebraic_KernelIdeal_ReferenceIdeal := fun m g m' g' _ hm => by
  refine ⟨fun c => RowScan.result m c, ?_, ?_⟩
  · exact (θ_run _ _ _).mono (fun r h c => ⟨(h c).1.trans (RowScan.final_eq m c), (h c).2⟩)
      (Cert.KernelIdeal.Value.run_blocks m g)
  · refine (θ_run _ _ _).mono (fun r h c => ⟨(h c).1.trans ?_, (h c).2⟩) (Cert.ReferenceIdeal.Value.run m' g')
    rw [hm c]
    exact RowScan.reference_eq _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
